-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S300x1x20x512 : Shape := ⟨4, ![300, 1, 20, 512]⟩
abbrev S300x1x20x64 : Shape := ⟨4, ![300, 1, 20, 64]⟩
abbrev S300x1x512 : Shape := ⟨3, ![300, 1, 512]⟩
abbrev S300x1x64 : Shape := ⟨3, ![300, 1, 64]⟩
abbrev S300x1920x512 : Shape := ⟨3, ![300, 1920, 512]⟩
abbrev S300x1920x4 : Shape := ⟨3, ![300, 1920, 4]⟩
abbrev S300x1920x64 : Shape := ⟨3, ![300, 1920, 64]⟩
abbrev S300 : Shape := ⟨1, ![300]⟩
abbrev S300x20x512 : Shape := ⟨3, ![300, 20, 512]⟩
abbrev S300x20x64 : Shape := ⟨3, ![300, 20, 64]⟩
abbrev S300x4x1920 : Shape := ⟨3, ![300, 4, 1920]⟩
abbrev S300x64x1920 : Shape := ⟨3, ![300, 64, 1920]⟩
abbrev S1x20x512 : Shape := ⟨3, ![1, 20, 512]⟩
abbrev S1x20x64 : Shape := ⟨3, ![1, 20, 64]⟩
abbrev S1x1x512 : Shape := ⟨3, ![1, 1, 512]⟩
abbrev S1x1x64 : Shape := ⟨3, ![1, 1, 64]⟩
abbrev S1x1920x512 : Shape := ⟨3, ![1, 1920, 512]⟩
abbrev S1x4x1920 : Shape := ⟨3, ![1, 4, 1920]⟩
abbrev S1x64x1920 : Shape := ⟨3, ![1, 64, 1920]⟩
abbrev S20x512 : Shape := ⟨2, ![20, 512]⟩
abbrev S20x64 : Shape := ⟨2, ![20, 64]⟩
abbrev S4x1920 : Shape := ⟨2, ![4, 1920]⟩
abbrev S64x1920 : Shape := ⟨2, ![64, 1920]⟩
abbrev S20x1920 : Shape := ⟨2, ![20, 1920]⟩
abbrev S20x128 : Shape := ⟨2, ![20, 128]⟩
abbrev S1x1920x128 : Shape := ⟨3, ![1, 1920, 128]⟩
abbrev S1920x128 : Shape := ⟨2, ![1920, 128]⟩
abbrev S1x1920 : Shape := ⟨2, ![1, 1920]⟩
abbrev S1 : Shape := ⟨1, ![1]⟩
abbrev S1x512 : Shape := ⟨2, ![1, 512]⟩
abbrev S20 : Shape := ⟨1, ![20]⟩
abbrev S20x1 : Shape := ⟨2, ![20, 1]⟩
abbrev S1x64 : Shape := ⟨2, ![1, 64]⟩
abbrev S1x128 : Shape := ⟨2, ![1, 128]⟩
abbrev S1x20x128 : Shape := ⟨3, ![1, 20, 128]⟩

abbrev nBuf : Space → Nat
  | .hbm => 13
  | .vmem => 16
  | .smem => 1
  | _ => 0

abbrev bufTy : (tb : Table) → Fin (tcTables nBuf tb) → BufTy
  | .hbm, ⟨0, _⟩ => ⟨S300x1x20x512, .bf16⟩
  | .hbm, ⟨1, _⟩ => ⟨S300x1x20x64, .bf16⟩
  | .hbm, ⟨2, _⟩ => ⟨S300x1x512, .bf16⟩
  | .hbm, ⟨3, _⟩ => ⟨S300x1x64, .bf16⟩
  | .hbm, ⟨4, _⟩ => ⟨S300x1920x512, .fp8e4m3⟩
  | .hbm, ⟨5, _⟩ => ⟨S300x1920x4, .f32⟩
  | .hbm, ⟨6, _⟩ => ⟨S300x1920x64, .bf16⟩
  | .hbm, ⟨7, _⟩ => ⟨S300x20x512, .bf16⟩
  | .hbm, ⟨8, _⟩ => ⟨S300x20x64, .bf16⟩
  | .hbm, ⟨9, _⟩ => ⟨S300x4x1920, .f32⟩
  | .hbm, ⟨10, _⟩ => ⟨S300x64x1920, .bf16⟩
  | .hbm, ⟨11, _⟩ => ⟨S300x20x512, .bf16⟩
  | .hbm, ⟨12, _⟩ => ⟨S300x1x20x512, .bf16⟩
  | .local _ .vmem, ⟨0, _⟩ => ⟨S1x20x512, .bf16⟩
  | .local _ .vmem, ⟨1, _⟩ => ⟨S1x20x512, .bf16⟩
  | .local _ .vmem, ⟨2, _⟩ => ⟨S1x20x64, .bf16⟩
  | .local _ .vmem, ⟨3, _⟩ => ⟨S1x20x64, .bf16⟩
  | .local _ .vmem, ⟨4, _⟩ => ⟨S1x1x512, .bf16⟩
  | .local _ .vmem, ⟨5, _⟩ => ⟨S1x1x512, .bf16⟩
  | .local _ .vmem, ⟨6, _⟩ => ⟨S1x1x64, .bf16⟩
  | .local _ .vmem, ⟨7, _⟩ => ⟨S1x1x64, .bf16⟩
  | .local _ .vmem, ⟨8, _⟩ => ⟨S1x1920x512, .fp8e4m3⟩
  | .local _ .vmem, ⟨9, _⟩ => ⟨S1x1920x512, .fp8e4m3⟩
  | .local _ .vmem, ⟨10, _⟩ => ⟨S1x4x1920, .f32⟩
  | .local _ .vmem, ⟨11, _⟩ => ⟨S1x4x1920, .f32⟩
  | .local _ .vmem, ⟨12, _⟩ => ⟨S1x64x1920, .bf16⟩
  | .local _ .vmem, ⟨13, _⟩ => ⟨S1x64x1920, .bf16⟩
  | .local _ .vmem, ⟨14, _⟩ => ⟨S1x20x512, .bf16⟩
  | .local _ .vmem, ⟨15, _⟩ => ⟨S1x20x512, .bf16⟩
  | .local _ .smem, ⟨0, _⟩ => ⟨S300, .i32⟩
  | _, _ => ⟨S300x1x20x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![300], ![false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v46 : Index := Scalar.indexCast arg0
  ![v46.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x20x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1920x512 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1920 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x20x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S300x1x20x512 : Shape := ⟨4, ![300, 1, 20, 512]⟩
abbrev S300x1x20x64 : Shape := ⟨4, ![300, 1, 20, 64]⟩
abbrev S300x1x512 : Shape := ⟨3, ![300, 1, 512]⟩
abbrev S300x1x64 : Shape := ⟨3, ![300, 1, 64]⟩
abbrev S300x1920x512 : Shape := ⟨3, ![300, 1920, 512]⟩
abbrev S300x1920x4 : Shape := ⟨3, ![300, 1920, 4]⟩
abbrev S300x1920x64 : Shape := ⟨3, ![300, 1920, 64]⟩
abbrev S300 : Shape := ⟨1, ![300]⟩
abbrev S300x1920x4x128 : Shape := ⟨4, ![300, 1920, 4, 128]⟩
abbrev S300x4x1920 : Shape := ⟨3, ![300, 4, 1920]⟩
abbrev S300x1x20x4x128 : Shape := ⟨5, ![300, 1, 20, 4, 128]⟩
abbrev S300x4x1920x1x20 : Shape := ⟨5, ![300, 4, 1920, 1, 20]⟩
abbrev S300x1x20x4x1920 : Shape := ⟨5, ![300, 1, 20, 4, 1920]⟩
abbrev S300x1x1x4x1920 : Shape := ⟨5, ![300, 1, 1, 4, 1920]⟩
abbrev S_ : Shape := ⟨0, ![]⟩
abbrev S300x1x20x1920 : Shape := ⟨4, ![300, 1, 20, 1920]⟩
abbrev S300x1x20x1 : Shape := ⟨4, ![300, 1, 20, 1]⟩
abbrev S1920 : Shape := ⟨1, ![1920]⟩
abbrev S1x1920 : Shape := ⟨2, ![1, 1920]⟩
abbrev S300x1 : Shape := ⟨2, ![300, 1]⟩
abbrev S300x1920 : Shape := ⟨2, ![300, 1920]⟩
abbrev S300x1x1x1920 : Shape := ⟨4, ![300, 1, 1, 1920]⟩
abbrev S1 : Shape := ⟨1, ![1]⟩
abbrev S1x1 : Shape := ⟨2, ![1, 1]⟩
abbrev S1x1x1x1 : Shape := ⟨4, ![1, 1, 1, 1]⟩
abbrev S300x1x20 : Shape := ⟨3, ![300, 1, 20]⟩
abbrev S300x1x20x1x1920 : Shape := ⟨5, ![300, 1, 20, 1, 1920]⟩
abbrev S300x4x128x1x20 : Shape := ⟨5, ![300, 4, 128, 1, 20]⟩

abbrev nBuf : Space → Nat
  | .hbm => 89
  | .vmem => 2
  | .smem => 0
  | _ => 0

abbrev bufTy : (tb : Table) → Fin (tcTables nBuf tb) → BufTy
  | .hbm, ⟨0, _⟩ => ⟨S300x1x20x512, .bf16⟩
  | .hbm, ⟨1, _⟩ => ⟨S300x1x20x64, .bf16⟩
  | .hbm, ⟨2, _⟩ => ⟨S300x1x512, .bf16⟩
  | .hbm, ⟨3, _⟩ => ⟨S300x1x64, .bf16⟩
  | .hbm, ⟨4, _⟩ => ⟨S300x1920x512, .fp8e4m3⟩
  | .hbm, ⟨5, _⟩ => ⟨S300x1920x4, .f32⟩
  | .hbm, ⟨6, _⟩ => ⟨S300x1920x64, .bf16⟩
  | .hbm, ⟨7, _⟩ => ⟨S300, .i32⟩
  | .hbm, ⟨8, _⟩ => ⟨S300x1920x512, .bf16⟩
  | .hbm, ⟨9, _⟩ => ⟨S300x1920x4x128, .bf16⟩
  | .hbm, ⟨10, _⟩ => ⟨S300x1920x4, .bf16⟩
  | .hbm, ⟨11, _⟩ => ⟨S300x4x1920, .bf16⟩
  | .hbm, ⟨12, _⟩ => ⟨S300x1x20x4x128, .bf16⟩
  | .hbm, ⟨13, _⟩ => ⟨S300x4x1920x1x20, .f32⟩
  | .hbm, ⟨14, _⟩ => ⟨S300x1x20x4x1920, .f32⟩
  | .hbm, ⟨15, _⟩ => ⟨S300x4x1920, .f32⟩
  | .hbm, ⟨16, _⟩ => ⟨S300x1x1x4x1920, .f32⟩
  | .hbm, ⟨17, _⟩ => ⟨S300x1x20x4x1920, .f32⟩
  | .hbm, ⟨18, _⟩ => ⟨S300x1x20x4x1920, .f32⟩
  | .hbm, ⟨19, _⟩ => ⟨S_, .f32⟩
  | .hbm, ⟨20, _⟩ => ⟨S300x1x20x1920, .f32⟩
  | .hbm, ⟨21, _⟩ => ⟨S300x1x20x1920, .f32⟩
  | .hbm, ⟨22, _⟩ => ⟨S300x1x20x1920, .f32⟩
  | .hbm, ⟨23, _⟩ => ⟨S_, .f32⟩
  | .hbm, ⟨24, _⟩ => ⟨S300x1x20x1920, .f32⟩
  | .hbm, ⟨25, _⟩ => ⟨S300x1x20x1920, .f32⟩
  | .hbm, ⟨26, _⟩ => ⟨S300x1x20x1, .f32⟩
  | .hbm, ⟨27, _⟩ => ⟨S300x1x20x1, .f32⟩
  | .hbm, ⟨28, _⟩ => ⟨S300x1x20x1, .f32⟩
  | .hbm, ⟨29, _⟩ => ⟨S_, .f32⟩
  | .hbm, ⟨30, _⟩ => ⟨S300x1x20x1, .f32⟩
  | .hbm, ⟨31, _⟩ => ⟨S300x1x20x1, .f32⟩
  | .hbm, ⟨32, _⟩ => ⟨S1920, .i32⟩
  | .hbm, ⟨33, _⟩ => ⟨S1x1920, .i32⟩
  | .hbm, ⟨34, _⟩ => ⟨S300x1, .i32⟩
  | .hbm, ⟨35, _⟩ => ⟨S300x1920, .i32⟩
  | .hbm, ⟨36, _⟩ => ⟨S300x1920, .i32⟩
  | .hbm, ⟨37, _⟩ => ⟨S300x1920, .i1⟩
  | .hbm, ⟨38, _⟩ => ⟨S300x1x1x1920, .i1⟩
  | .hbm, ⟨39, _⟩ => ⟨S_, .f32⟩
  | .hbm, ⟨40, _⟩ => ⟨S_, .f32⟩
  | .hbm, ⟨41, _⟩ => ⟨S300x1x20x1920, .i1⟩
  | .hbm, ⟨42, _⟩ => ⟨S300x1x20x1920, .f32⟩
  | .hbm, ⟨43, _⟩ => ⟨S300x1x20x1920, .f32⟩
  | .hbm, ⟨44, _⟩ => ⟨S1, .i32⟩
  | .hbm, ⟨45, _⟩ => ⟨S1x1, .i32⟩
  | .hbm, ⟨46, _⟩ => ⟨S1, .i32⟩
  | .hbm, ⟨47, _⟩ => ⟨S1x1, .i32⟩
  | .hbm, ⟨48, _⟩ => ⟨S1x1, .i1⟩
  | .hbm, ⟨49, _⟩ => ⟨S1x1x1x1, .i1⟩
  | .hbm, ⟨50, _⟩ => ⟨S_, .f32⟩
  | .hbm, ⟨51, _⟩ => ⟨S_, .f32⟩
  | .hbm, ⟨52, _⟩ => ⟨S300x1x20x1, .i1⟩
  | .hbm, ⟨53, _⟩ => ⟨S300x1x20x1, .f32⟩
  | .hbm, ⟨54, _⟩ => ⟨S300x1x20x1, .f32⟩
  | .hbm, ⟨55, _⟩ => ⟨S_, .f32⟩
  | .hbm, ⟨56, _⟩ => ⟨S300x1x20, .f32⟩
  | .hbm, ⟨57, _⟩ => ⟨S_, .f32⟩
  | .hbm, ⟨58, _⟩ => ⟨S300x1x20, .f32⟩
  | .hbm, ⟨59, _⟩ => ⟨S300x1x20, .f32⟩
  | .hbm, ⟨60, _⟩ => ⟨S300x1x20x1, .f32⟩
  | .hbm, ⟨61, _⟩ => ⟨S300x1x20x1920, .f32⟩
  | .hbm, ⟨62, _⟩ => ⟨S300x1x20x1920, .f32⟩
  | .hbm, ⟨63, _⟩ => ⟨S300x1x20x1920, .f32⟩
  | .hbm, ⟨64, _⟩ => ⟨S300x1x20x1, .f32⟩
  | .hbm, ⟨65, _⟩ => ⟨S300x1x20x1, .f32⟩
  | .hbm, ⟨66, _⟩ => ⟨S_, .f32⟩
  | .hbm, ⟨67, _⟩ => ⟨S300x1x20, .f32⟩
  | .hbm, ⟨68, _⟩ => ⟨S300x1x20x1, .f32⟩
  | .hbm, ⟨69, _⟩ => ⟨S_, .f32⟩
  | .hbm, ⟨70, _⟩ => ⟨S300x1x20, .f32⟩
  | .hbm, ⟨71, _⟩ => ⟨S300x1x20x1, .f32⟩
  | .hbm, ⟨72, _⟩ => ⟨S300x1x20x1, .f32⟩
  | .hbm, ⟨73, _⟩ => ⟨S300x1x20x1920, .f32⟩
  | .hbm, ⟨74, _⟩ => ⟨S300x1x20x1920, .f32⟩
  | .hbm, ⟨75, _⟩ => ⟨S300x1x20x1920, .bf16⟩
  | .hbm, ⟨76, _⟩ => ⟨S300x1x20x1, .f32⟩
  | .hbm, ⟨77, _⟩ => ⟨S300x1x20x1, .bf16⟩
  | .hbm, ⟨78, _⟩ => ⟨S300x1x20x1x1920, .bf16⟩
  | .hbm, ⟨79, _⟩ => ⟨S300x1x1x4x1920, .bf16⟩
  | .hbm, ⟨80, _⟩ => ⟨S300x1x20x4x1920, .bf16⟩
  | .hbm, ⟨81, _⟩ => ⟨S300x1x20x4x1920, .bf16⟩
  | .hbm, ⟨82, _⟩ => ⟨S300x1x20x4x1920, .bf16⟩
  | .hbm, ⟨83, _⟩ => ⟨S300x4x128x1x20, .f32⟩
  | .hbm, ⟨84, _⟩ => ⟨S300x1x20x4x128, .f32⟩
  | .hbm, ⟨85, _⟩ => ⟨S300x1x20x512, .f32⟩
  | .hbm, ⟨86, _⟩ => ⟨S300x1x20x512, .f32⟩
  | .hbm, ⟨87, _⟩ => ⟨S300x1x20x512, .f32⟩
  | .hbm, ⟨88, _⟩ => ⟨S300x1x20x512, .bf16⟩
  | .local _ .vmem, ⟨0, _⟩ => ⟨S300x1920x512, .fp8e4m3⟩
  | .local _ .vmem, ⟨1, _⟩ => ⟨S300x1920x512, .bf16⟩
  | _, _ => ⟨S300x1x20x512, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v35 : Ref sig .tc := ⟨.hbm, 54, rfl⟩
abbrev main_cst_4 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_6 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S300x1920x512 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S300x1920x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Math.lean ====
/- The problem's mathematics for one sequence and one head, over the extended reals: the logits of the cached and of the
   new position, the softmax over both, and the attention output. Nothing here mentions a program. -/
module

public import Idealize.ShloMosaic.Lib.Pointwise

@[expose] public section

noncomputable section

namespace Cert.Math

open Idealize.ShloMosaic

/-- Everything that the output row of one sequence and one head depends on. -/
structure Row where
  /-- the query in the latent space -/
  x : Fin 512 → EReal
  /-- the rotary part of the query -/
  q : Fin 64 → EReal
  /-- the new position's latent vector -/
  vn : Fin 512 → EReal
  /-- the new position's rotary key -/
  kn : Fin 64 → EReal
  /-- the cached codes, position by position -/
  code : Fin 1920 → Fin 512 → EReal
  /-- the scale of each position's group of 128 codes -/
  sc : Fin 1920 → Fin 4 → EReal
  /-- the cached rotary keys -/
  kr : Fin 1920 → Fin 64 → EReal
  /-- how many cached positions are visible -/
  len : BitVec 32

/-- Channel `c` of group `g`, among the 512 latent channels. -/
def col (g : Fin 4) (c : Fin 128) : Fin 512 := ⟨g.val * 128 + c.val, by omega⟩

/-- Two rows with equal fields are equal. -/
theorem Row.ext' {a b : Row} (h1 : ∀ i, a.x i = b.x i) (h2 : ∀ i, a.q i = b.q i) (h3 : ∀ i, a.vn i = b.vn i)
    (h4 : ∀ i, a.kn i = b.kn i) (h5 : ∀ p i, a.code p i = b.code p i) (h6 : ∀ p i, a.sc p i = b.sc p i)
    (h7 : ∀ p i, a.kr p i = b.kr p i) (h8 : a.len = b.len) : a = b := by
  cases a; cases b
  simp only [Row.mk.injEq]
  exact ⟨funext h1, funext h2, funext h3, funext h4, funext fun p => funext (h5 p), funext fun p => funext (h6 p),
    funext fun p => funext (h7 p), h8⟩

/-- The constant that both programs scale the logits by. -/
def scale : EReal := Ideal.ofBits .f32 0x3D93CD3A#32

/-- The part of the cached logit that group `g` contributes: the scaled dot product with the group's codes. -/
def groupDot (r : Row) (p : Fin 1920) (g : Fin 4) : EReal :=
  (∑ c : Fin 128, r.x (col g c) * r.code p (col g c)) * r.sc p g

/-- The logit of cached position `p`, `⊥` where it is not visible. -/
def logit (r : Row) (p : Fin 1920) : EReal :=
  Scalar.select (IntOp.cmpi .slt (BitVec.ofNat 32 p.val) r.len)
    (((∑ g : Fin 4, groupDot r p g) + ∑ k : Fin 64, r.q k * r.kr p k) * scale) ⊥

/-- The logit of the new position. -/
def newLogit (r : Row) : EReal := ((∑ l : Fin 512, r.x l * r.vn l) + ∑ k : Fin 64, r.q k * r.kn k) * scale

/-- The largest logit. -/
def top (r : Row) : EReal := max (Finset.univ.fold max ⊥ fun p : Fin 1920 => logit r p) (newLogit r)

/-- The unnormalised weight of cached position `p`. -/
def weight (r : Row) (p : Fin 1920) : EReal := Ideal.exp (logit r p - top r)

/-- The unnormalised weight of the new position. -/
def newWeight (r : Row) : EReal := Ideal.exp (newLogit r - top r)

/-- The softmax's denominator. -/
def denom (r : Row) : EReal := (∑ p : Fin 1920, weight r p) + newWeight r

/-- The attention output at channel `c` of group `g`. -/
def out (r : Row) (g : Fin 4) (c : Fin 128) : EReal :=
  (∑ p : Fin 1920, Ideal.div (weight r p) (denom r) * r.sc p g * r.code p (col g c))
    + Ideal.div (newWeight r) (denom r) * r.vn (col g c)

/-- The row of sequence `b` and head `h`, read off the eight arguments. -/
def argRow (a0 : (⟨4, ![300, 1, 20, 512]⟩ : Shape).Idx → EReal) (a1 : (⟨4, ![300, 1, 20, 64]⟩ : Shape).Idx → EReal)
    (a2 : (⟨3, ![300, 1, 512]⟩ : Shape).Idx → EReal) (a3 : (⟨3, ![300, 1, 64]⟩ : Shape).Idx → EReal)
    (a4 : (⟨3, ![300, 1920, 512]⟩ : Shape).Idx → EReal) (a5 : (⟨3, ![300, 1920, 4]⟩ : Shape).Idx → EReal)
    (a6 : (⟨3, ![300, 1920, 64]⟩ : Shape).Idx → EReal) (a7 : (⟨1, ![300]⟩ : Shape).Idx → BitVec 32) (b : Fin 300) (h : Fin 20) :
    Row where
  x l := a0 (ix4 b (0 : Fin 1) h l)
  q k := a1 (ix4 b (0 : Fin 1) h k)
  vn l := a2 (ix3 b (0 : Fin 1) l)
  kn k := a3 (ix3 b (0 : Fin 1) k)
  code p l := a4 (ix3 b p l)
  sc p g := a5 (ix3 b p g)
  kr p k := a6 (ix3 b p k)
  len := a7 (ix1 b)

/-- Every channel is channel `l % 128` of group `l / 128`. -/
theorem exists_col (l : Fin 512) : ∃ (g : Fin 4) (c : Fin 128), l = col g c :=
  ⟨⟨l.val / 128, by omega⟩, ⟨l.val % 128, by omega⟩, Fin.ext (by show l.val = l.val / 128 * 128 + l.val % 128; omega)⟩

/-- The group of a channel, and its place in the group. -/
def grp (l : Fin 512) : Fin 4 := ⟨l.val / 128, by omega⟩
/-- The place of a channel in its group. -/
def lane (l : Fin 512) : Fin 128 := ⟨l.val % 128, by omega⟩

theorem grp_col (g : Fin 4) (c : Fin 128) : grp (col g c) = g := Fin.ext (by show (g.val * 128 + c.val) / 128 = g.val; omega)
theorem lane_col (g : Fin 4) (c : Fin 128) : lane (col g c) = c := Fin.ext (by show (g.val * 128 + c.val) % 128 = c.val; omega)

/-- The word of minus infinity is the least extended real. -/
theorem ofBits_neg_inf : Ideal.ofBits .f32 0xFF800000#32 = (⊥ : EReal) := by
  simp [Ideal.ofBits, Ideal.ieee]

end Cert.Math

end
-- ==== Proof.Body.lean ====
/- What one grid point computes, read at an index: the kernel body's payloads are the mathematics of one row. -/
module

public import proofs.«01_k».proof.Proof.Math
public import proofs.«01_k».proof.Proof.Gen.KernelIdeal.Skeleton

@[expose] public section

set_option maxRecDepth 16384

noncomputable section

namespace Cert.KernelIdeal.Body

open Idealize.ShloMosaic Idealize.ShloMosaic.Pointwise Cert.KernelIdeal Cert.KernelIdeal.Gen Cert.Math

variable (r : Row) (h : Fin 20)
  (v0 : Vec Ideal S1x20x512 .bf16) (v2 : Vec Ideal S1x20x64 .bf16) (v4 : Vec Ideal S1x4x1920 .f32)
  (v8 : Vec Ideal S1x64x1920 .bf16) (c0 c1 c2 c3 : Vec Ideal S1x1920x128 .fp8e4m3)
  (v52 : Vec Ideal S1x1x512 .bf16) (v61 : Vec Ideal S1x1x64 .bf16)

/-- The loaded blocks hold the row's numbers. -/
structure Holds : Prop where
  hx : ∀ l, v0 (ix3 (0 : Fin 1) h l) = r.x l
  hq : ∀ k, v2 (ix3 (0 : Fin 1) h k) = r.q k
  hs : ∀ p g, v4 (ix3 (0 : Fin 1) g p) = r.sc p g
  hk : ∀ p k, v8 (ix3 (0 : Fin 1) k p) = r.kr p k
  h0 : ∀ p c, c0 (ix3 (0 : Fin 1) p c) = r.code p (col 0 c)
  h1 : ∀ p c, c1 (ix3 (0 : Fin 1) p c) = r.code p (col 1 c)
  h2 : ∀ p c, c2 (ix3 (0 : Fin 1) p c) = r.code p (col 2 c)
  h3 : ∀ p c, c3 (ix3 (0 : Fin 1) p c) = r.code p (col 3 c)
  hv : ∀ l, v52 (ix3 (0 : Fin 1) (0 : Fin 1) l) = r.vn l
  hn : ∀ k, v61 (ix3 (0 : Fin 1) (0 : Fin 1) k) = r.kn k

/-- The masked logits. -/
theorem pay8_at (H : Holds r h v0 v2 v4 v8 c0 c1 c2 c3 v52 v61) (p : Fin 1920) :
    k0_pay8 (F := Ideal) (k0_pay3 v0) (k0_pay5 v4) (k0_pay6 v0 v2 v4 v8 c0 c1) (k0_pay7 v0 v4 c2) c3 r.len (ix2 h p) = logit r p := by
  pointwise [k0_pay8, k0_pay3, k0_pay5, k0_pay6, k0_pay7, k0_pay4]
  simp only [H.hx, H.hq, H.hs, H.hk, H.h0, H.h1, H.h2, H.h3, ofBits_neg_inf]
  unfold logit groupDot
  rw [Fin.sum_univ_four, add_comm (_ + _ + _ + _) (∑ k, r.q k * r.kr p k), ← add_assoc, ← add_assoc, ← add_assoc]
  simp only [col, scale, Fin.val_zero, Fin.val_one, Fin.val_two, Fin.isValue, zero_mul, zero_add, one_mul]
  rfl

/-- The new position's logit. -/
theorem pay10_at (H : Holds r h v0 v2 v4 v8 c0 c1 c2 c3 v52 v61) :
    k0_pay10 (F := Ideal) (k0_pay3 v0) (k0_pay4 v2) v52 v61 (ix2 h (0 : Fin 1)) = newLogit r := by
  pointwise [k0_pay10, k0_pay9, k0_pay3, k0_pay4]
  simp only [H.hx, H.hq, H.hv, H.hn]
  rfl

/-- The largest logit. -/
theorem pay11_at (H : Holds r h v0 v2 v4 v8 c0 c1 c2 c3 v52 v61) :
    k0_pay11 (F := Ideal) (k0_pay3 v0) (k0_pay4 v2) (k0_pay5 v4) (k0_pay6 v0 v2 v4 v8 c0 c1) (k0_pay7 v0 v4 c2) c3 r.len
      v52 v61 (ix2 h (0 : Fin 1)) = top r := by
  pointwise [k0_pay11]
  simp only [pay8_at r h _ _ _ _ _ _ _ _ _ _ H, pay10_at r h _ _ _ _ _ _ _ _ _ _ H, ofBits_neg_inf]
  rfl

/-- The unnormalised weights. -/
theorem pay12_at (H : Holds r h v0 v2 v4 v8 c0 c1 c2 c3 v52 v61) (p : Fin 1920) :
    k0_pay12 (F := Ideal) (k0_pay3 v0) (k0_pay4 v2) (k0_pay5 v4) (k0_pay6 v0 v2 v4 v8 c0 c1) (k0_pay7 v0 v4 c2) c3 r.len
      v52 v61 (ix2 h p) = weight r p := by
  pointwise [k0_pay12]
  simp only [pay8_at r h _ _ _ _ _ _ _ _ _ _ H, pay11_at r h _ _ _ _ _ _ _ _ _ _ H]
  rfl

/-- The new position's logit less the largest. -/
theorem pay13_at (H : Holds r h v0 v2 v4 v8 c0 c1 c2 c3 v52 v61) :
    k0_pay13 (F := Ideal) (k0_pay3 v0) (k0_pay4 v2) (k0_pay5 v4) (k0_pay6 v0 v2 v4 v8 c0 c1) (k0_pay7 v0 v4 c2) c3 r.len
      v52 v61 (ix2 h (0 : Fin 1)) = newLogit r - top r := by
  pointwise [k0_pay13]
  simp only [pay10_at r h _ _ _ _ _ _ _ _ _ _ H, pay11_at r h _ _ _ _ _ _ _ _ _ _ H]

section Stores

variable (w : FVec Ideal S20x1920 .f32) (n : FVec Ideal S20x1 .f32)

/-- The softmax over the cached positions, from the weights `w` and the new position's exponent `n`. -/
theorem pay16_at (hw : ∀ p, w (ix2 h p) = weight r p) (hn : n (ix2 h (0 : Fin 1)) = newLogit r - top r) (p : Fin 1920) :
    k0_pay16 (F := Ideal) w n (ix2 h p) = Ideal.div (weight r p) (denom r) := by
  pointwise [k0_pay16, k0_pay15, k0_pay14]
  simp only [hw, hn]
  rfl

/-- The softmax at the new position. -/
theorem pay17_at (hw : ∀ p, w (ix2 h p) = weight r p) (hn : n (ix2 h (0 : Fin 1)) = newLogit r - top r) :
    k0_pay17 (F := Ideal) w n (ix2 h (0 : Fin 1)) = Ideal.div (newWeight r) (denom r) := by
  pointwise [k0_pay17, k0_pay15, k0_pay14]
  simp only [hw, hn]
  rfl

variable (hw : ∀ p, w (ix2 h p) = weight r p) (hn : n (ix2 h (0 : Fin 1)) = newLogit r - top r)
  (H : Holds r h v0 v2 v4 v8 c0 c1 c2 c3 v52 v61) (c : Fin 128)

include hw hn H

/-- The first store: channels 0 to 127. -/
theorem store0_at : k0_pay18 (F := Ideal) (k0_pay5 v4) (k0_pay9 v52) w n c0 (ix3 (0 : Fin 1) h c) = out r 0 c := by
  pointwise [k0_pay18, k0_pay5, k0_pay9]
  simp only [pay16_at r h w n hw hn, pay17_at r h w n hw hn, H.h0, H.hs, H.hv]
  simp only [out, col, Fin.val_zero, Fin.val_one, Fin.val_two, Fin.isValue, zero_mul, zero_add, one_mul]
  try rfl

/-- The second store: channels 128 to 255. -/
theorem store1_at : k0_pay19 (F := Ideal) (k0_pay5 v4) (k0_pay9 v52) w n c1 (ix3 (0 : Fin 1) h c) = out r 1 c := by
  pointwise [k0_pay19, k0_pay5, k0_pay9]
  simp only [pay16_at r h w n hw hn, pay17_at r h w n hw hn, H.h1, H.hs, H.hv]
  simp only [out, col, Fin.val_zero, Fin.val_one, Fin.val_two, Fin.isValue, zero_mul, zero_add, one_mul]
  try rfl

/-- The third store: channels 256 to 383. -/
theorem store2_at : k0_pay1 (F := Ideal) (k0_pay5 v4) (k0_pay9 v52) (k0_pay16 w n) (k0_pay17 w n) c2 (ix3 (0 : Fin 1) h c)
    = out r 2 c := by
  pointwise [k0_pay1, k0_pay5, k0_pay9]
  simp only [pay16_at r h w n hw hn, pay17_at r h w n hw hn, H.h2, H.hs, H.hv]
  simp only [out, col, Fin.val_zero, Fin.val_one, Fin.val_two, Fin.isValue, zero_mul, zero_add, one_mul]
  try rfl

/-- The fourth store: channels 384 to 511. -/
theorem store3_at : k0_pay2 (F := Ideal) (k0_pay5 v4) (k0_pay9 v52) (k0_pay16 w n) (k0_pay17 w n) c3 (ix3 (0 : Fin 1) h c)
    = out r 3 c := by
  pointwise [k0_pay2, k0_pay5, k0_pay9]
  simp only [pay16_at r h w n hw hn, pay17_at r h w n hw hn, H.h3, H.hs, H.hv]
  simp only [out, col, Fin.val_zero, Fin.val_one, Fin.val_two, Fin.isValue, zero_mul, zero_add, one_mul]
  try rfl

end Stores

end Cert.KernelIdeal.Body

end
-- ==== Proof.Block.lean ====
/- What one grid point leaves in the output's block: the four stores' payloads, read at an index. -/
module

public import proofs.«01_k».proof.Proof.Body
public import proofs.«01_k».proof.Proof.Gen.KernelIdeal.Frame
public import Idealize.ShloMosaic.Lib.Pipeline.ValueKit
public import Idealize.ShloMosaic.Lib.Tactic

@[expose] public section

set_option maxRecDepth 16384

noncomputable section

namespace Cert.KernelIdeal.Body

open Idealize.ShloMosaic Idealize.ShloMosaic.TcCoe Idealize.ShloMosaic.Pointwise Cert.KernelIdeal Cert.KernelIdeal.Gen Cert.Math

/-- The zero offsets of a rank-three load. -/
theorem z3 : (![0, 0, 0] : Fin 3 → Nat) = fun _ => 0 := funext fun a => by fin_cases a <;> rfl

variable (x0 : Vec Ideal S1x20x512 .bf16) (x1 : Vec Ideal S1x20x64 .bf16) (x2 : Vec Ideal S1x1x512 .bf16)
  (x3 : Vec Ideal S1x1x64 .bf16) (x4 : Vec Ideal S1x1920x512 .fp8e4m3) (x5 : Vec Ideal S1x4x1920 .f32)
  (x6 : Vec Ideal S1x64x1920 .bf16)

/-- The row of head `h` that a point's input blocks hold, at the sequence's length `len`. -/
def blockRow (len : BitVec 32) (h : Fin 20) : Row where
  x l := x0 (ix3 (0 : Fin 1) h l)
  q k := x1 (ix3 (0 : Fin 1) h k)
  vn l := x2 (ix3 (0 : Fin 1) (0 : Fin 1) l)
  kn k := x3 (ix3 (0 : Fin 1) (0 : Fin 1) k)
  code p l := x4 (ix3 (0 : Fin 1) p l)
  sc p g := x5 (ix3 (0 : Fin 1) g p)
  kr p k := x6 (ix3 (0 : Fin 1) k p)
  len := len

/-- A load of one group's codes reads the code block at that group's channels. -/
theorem ld_group (g : Fin 4) (o : Nat) (ho : o = g.val * 128)
    (inb : ∀ a, (![0, 0, o] : Fin 3 → Nat) a + (![1, 1920, 128] : Fin 3 → Nat) a ≤ S1x1920x512.size a) (p : Fin 1920)
    (c : Fin 128) :
    View.ld (e' := .fp8e4m3) (Val := Elt Ideal) x4 (Rect.unit (s := S1x1920x512) ![0, 0, o] ![1, 1920, 128] inb) (ix3 (0 : Fin 1) p c)
      = x4 (ix3 (0 : Fin 1) p (col g c)) := by
  refine View.ld_unit_apply_of x4 _ _ inb _ _ fun a => ?_
  subst ho
  match a with
  | ⟨0, _⟩ => rfl
  | ⟨1, _⟩ => exact (Nat.zero_add _).symm
  | ⟨2, _⟩ => rfl

/-- The loaded blocks hold the numbers of the row of head `h`. -/
theorem holds (len : BitVec 32) (h : Fin 20) (i0 i1 i2 i3) :
    Holds (blockRow x0 x1 x2 x3 x4 x5 x6 len h) h x0 x1 x5 x6
      (View.ld (e' := .fp8e4m3) (Val := Elt Ideal) x4 (Rect.unit (s := S1x1920x512) ![0, 0, 0] ![1, 1920, 128] i0))
      (View.ld (e' := .fp8e4m3) (Val := Elt Ideal) x4 (Rect.unit (s := S1x1920x512) ![0, 0, 128] ![1, 1920, 128] i1))
      (View.ld (e' := .fp8e4m3) (Val := Elt Ideal) x4 (Rect.unit (s := S1x1920x512) ![0, 0, 256] ![1, 1920, 128] i2))
      (View.ld (e' := .fp8e4m3) (Val := Elt Ideal) x4 (Rect.unit (s := S1x1920x512) ![0, 0, 384] ![1, 1920, 128] i3)) x2 x3 where
  hx _ := rfl
  hq _ := rfl
  hs _ _ := rfl
  hk _ _ := rfl
  h0 := ld_group x4 0 0 rfl i0
  h1 := ld_group x4 1 128 rfl i1
  h2 := ld_group x4 2 256 rfl i2
  h3 := ld_group x4 3 384 rfl i3
  hv _ := rfl
  hn _ := rfl

/-- A store of 128 columns at `g * 128` has the value `v` at head `h` and channel `cc` of group `g'`, when its payload
    has it there in case the groups are the same. -/
theorem tileAt (g g' : Fin 4) (o : Nat) (ho : o = g.val * 128) (w : S1x20x128.Idx → EReal) (h : Fin 20) (cc : Fin 128)
    (v : EReal) (hw : g' = g → w (ix3 (0 : Fin 1) h cc) = v) :
    View.TileAt (S := S1x20x512) (Val := Elt Ideal) (e := .bf16) (ix3 (0 : Fin 1) h (col g' cc)) ![0, 0, o] ![1, 20, 128] w v := by
  intro x hx
  have e1 : (h : Nat) = 0 + (x 1 : Nat) := hx 1
  have e2 : g'.val * 128 + cc.val = o + (x 2 : Nat) := hx 2
  have l0 : (x 0 : Nat) < 1 := (x 0).isLt
  have l2 : (x 2 : Nat) < 128 := (x 2).isLt
  have hc := cc.isLt
  have hg : g' = g := Fin.ext (by omega)
  subst hg
  rw [← hw rfl]
  congr 1
  funext a
  apply Fin.ext
  match a with
  | ⟨0, _⟩ => show (x 0 : Nat) = 0; omega
  | ⟨1, _⟩ => show (x 1 : Nat) = h; omega
  | ⟨2, _⟩ => show (x 2 : Nat) = cc; omega

/-- The scalar load of a point's length reads the table at the point's sequence. -/
theorem ld_len (i : grid0.Coords) (c : Dev nD) (xt : TbBuf0 (F := Ideal) c tbM0_0) (len : BitVec 32)
    (hlen : xt (ix1 (n0 := 300) (i 0)) = len) (off : Fin S300.rank → Nat) (inb) (z) (hoff : off = ![(i 0).val]) :
    View.ld (Val := Elt Ideal) (S := S300) (e' := .i32) (View.read (Elt Ideal) (View.whole main_arg7) xt) (Rect.unit (s := S300) off ![1] inb) z
      = len := by
  rw [← hlen]
  subst hoff
  refine View.ld_unit_apply_of (S := S300) (Val := Elt Ideal) (e := .i32) _ _ _ inb _ (ix1 (n0 := 300) (i 0)) fun a => ?_
  match a with
  | ⟨0, _⟩ =>
    have hz : (z 0 : Nat) < 1 := (z 0).isLt
    show ((i 0).val : Nat) = (i 0).val + (z 0 : Nat)
    omega

/-- The scalar that a point loads from the table of lengths. -/
abbrev lenAt (i : grid0.Coords) (c : Dev nD) (xt : TbBuf0 (F := Ideal) c tbM0_0) : BitVec 32 :=
  View.ld (Val := Elt Ideal) (S := S300) (e' := .i32) (View.read (Elt Ideal) (View.whole main_arg7) xt)
    (Rect.unit (s := S300) (k0_off1 i) ![1] (k0_off1_inb i)) (Shape.Idx.first (show 0 < S1.numel by decide))

/-- WHAT A POINT LEAVES in its output block, at head `h` and channel `cc` of group `g`: the output of the head's row. -/
theorem out_at (c : Dev nD) (i : grid0.Coords)
    (a2 : Memref sig .tc .vmem S1x20x512 .bf16) (h2 : a2.IsWhole)
    (a3 : Memref sig .tc .vmem S1x20x64 .bf16) (h3 : a3.IsWhole)
    (a4 : Memref sig .tc .vmem S1x1x512 .bf16) (h4 : a4.IsWhole)
    (a5 : Memref sig .tc .vmem S1x1x64 .bf16) (h5 : a5.IsWhole)
    (a6 : Memref sig .tc .vmem S1x1920x512 .fp8e4m3) (h6 : a6.IsWhole)
    (a7 : Memref sig .tc .vmem S1x4x1920 .f32) (h7 : a7.IsWhole)
    (a8 : Memref sig .tc .vmem S1x64x1920 .bf16) (h8 : a8.IsWhole)
    (a9 : Memref sig .tc .vmem S1x20x512 .bf16) (h9 : a9.IsWhole)
    (xt : TbBuf0 (F := Ideal) c tbM0_0) (len : BitVec 32) (hlen : xt (ix1 (n0 := 300) (i 0)) = len) (h : Fin 20) (g : Fin 4)
    (cc : Fin 128) :
    out0_A_7 c i a2 h2 a3 h3 a4 h4 a5 h5 a6 h6 a7 h7 a8 h8 a9 h9 x0 x1 x2 x3 x4 x5 x6 xt (ix3 (0 : Fin 1) h (col g cc))
      = out (blockRow x0 x1 x2 x3 x4 x5 x6 len h) g cc := by
  unfold out0_A_7
  have cov := cover0_A_7 c i a2 h2 a3 h3 a4 h4 a5 h5 a6 h6 a7 h7 a8 h8 a9 h9 x0 x1 x2 x3 x4 x5 x6 xt
  rw [View.read_writes_eq_canon _ _ _ cov]
  refine View.canon_eq_of_allAt _ _ _ (cov _) ?_
  clear cov
  have hl : lenAt i c xt = len := ld_len i c xt len hlen (k0_off1 i) (k0_off1_inb i) _ (k0_off1_eq i)
  rw [← hl]
  clear hl
  have H := holds x0 x1 x2 x3 x4 x5 x6 (lenAt i c xt) h inb_S1x1920x512_S1x1920x128_0_0_0 inb_S1x1920x512_S1x1920x128_0_0_128
    inb_S1x1920x512_S1x1920x128_0_0_256 inb_S1x1920x512_S1x1920x128_0_0_384
  have hw := pay12_at _ h _ _ _ _ _ _ _ _ _ _ H
  have hn := pay13_at _ h _ _ _ _ _ _ _ _ _ _ H
  unfold kernelRun0_A
  dsimp only
  sl_unfold_words
  simp only [View.readAt_eq_ld, h2.read_unread, h3.read_unread, h4.read_unread, h5.read_unread, h6.read_unread,
    h7.read_unread, h8.read_unread, View.ld_unit_zero (S := S1x20x512) z3, View.ld_unit_zero (S := S1x20x64) z3,
    View.ld_unit_zero (S := S1x1x512) z3, View.ld_unit_zero (S := S1x1x64) z3, View.ld_unit_zero (S := S1x4x1920) z3,
    View.ld_unit_zero (S := S1x64x1920) z3]
  refine View.allAt_cons_unit _ _ _ _ _ (tileAt 3 g 384 rfl _ h cc _ fun hg => ?_) ?_
  · subst hg; exact store3_at _ h _ _ _ _ _ _ _ _ _ _ _ _ hw hn H cc
  refine View.allAt_cons_unit _ _ _ _ _ (tileAt 2 g 256 rfl _ h cc _ fun hg => ?_) ?_
  · subst hg; exact store2_at _ h _ _ _ _ _ _ _ _ _ _ _ _ hw hn H cc
  refine View.allAt_cons_unit _ _ _ _ _ (tileAt 1 g 128 rfl _ h cc _ fun hg => ?_) ?_
  · subst hg; exact store1_at _ h _ _ _ _ _ _ _ _ _ _ _ _ hw hn H cc
  refine View.allAt_cons_unit _ _ _ _ _ (tileAt 0 g 0 rfl _ h cc _ fun hg => ?_) (View.allAt_nil _ _)
  subst hg; exact store0_at _ h _ _ _ _ _ _ _ _ _ _ _ _ hw hn H cc

end Cert.KernelIdeal.Body

end
-- ==== Proof.KernelValue.lean ====
/- What the idealized kernel's result array ends holding: at every index, the output of the row of its sequence and head. -/
module

public import proofs.«01_k».proof.Proof.Block

@[expose] public section

set_option maxRecDepth 16384

noncomputable section

namespace Cert.KernelIdeal.Body

open Idealize.ShloMosaic Idealize.ShloMosaic.TcCoe Idealize.ShloMosaic.Pointwise Idealize.SL.Sem Cert.KernelIdeal Cert.KernelIdeal.Gen Cert.Math

variable (m : (ℓ : Loc nD τ sig) → Buf (Elt Ideal) ℓ) (ρ : Dev nD → PrngReg) (c : Dev nD)

/-- The row of sequence `b` and head `h`, read off the memory's arguments. -/
abbrev memRow (b : Fin 300) (h : Fin 20) : Row :=
  argRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b h

/-- The reshaped query is the query. -/
theorem V_v0 (b : Fin 300) (h : Fin 20) (l : Fin 512) :
    V m c main_v0 (ix3 b h l) = m ((c : Thread nD τ).loc main_arg0) (ix4 b (0 : Fin 1) h l) := by
  show StableHlo.after hostOps0 (fun b => m (c, b)) (Proc.devRef .tc main_v0) (ix3 b h l) = _
  after_results
  pointwise

/-- The reshaped rotary query is the rotary query. -/
theorem V_v1 (b : Fin 300) (h : Fin 20) (k : Fin 64) :
    V m c main_v1 (ix3 b h k) = m ((c : Thread nD τ).loc main_arg1) (ix4 b (0 : Fin 1) h k) := by
  show StableHlo.after hostOps0 (fun b => m (c, b)) (Proc.devRef .tc main_v1) (ix3 b h k) = _
  after_results
  pointwise

/-- The transposed scales are the scales. -/
theorem V_v2 (b : Fin 300) (g : Fin 4) (p : Fin 1920) :
    V m c main_v2 (ix3 b g p) = m ((c : Thread nD τ).loc main_arg5) (ix3 b p g) := by
  show StableHlo.after hostOps0 (fun b => m (c, b)) (Proc.devRef .tc main_v2) (ix3 b g p) = _
  after_results
  pointwise

/-- The transposed rotary keys are the rotary keys. -/
theorem V_v3 (b : Fin 300) (k : Fin 64) (p : Fin 1920) :
    V m c main_v3 (ix3 b k p) = m ((c : Thread nD τ).loc main_arg6) (ix3 b p k) := by
  show StableHlo.after hostOps0 (fun b => m (c, b)) (Proc.devRef .tc main_v3) (ix3 b k p) = _
  after_results
  pointwise

/-- The tables the launch finds are the lengths. -/
theorem tbl_eq : tbl m 0 = m ((c : Thread nD τ).loc main_arg7) := by
  obtain rfl : c = 0 := Subsingleton.elim _ _
  exact V_main_arg7 m 0

/-- The kernel's result before the last reshape. -/
def result3 : Buf (Elt Ideal) ((c : Thread nD τ).loc main_v4) := fun j =>
  out (memRow m c (j 0) (j 1)) (grp (j 2)) (lane (j 2))

/-- At point `t` every window's block index is sequence `t`, whole in the other two axes. -/
theorem starts (t : Fin grid0.N) : (grid0.coords t 0).val = t.val
    ∧ cc0_transform_0 (grid0.coords t) = ![t.val, 0, 0] ∧ cc0_transform_1 (grid0.coords t) = ![t.val, 0, 0]
    ∧ cc0_transform_2 (grid0.coords t) = ![t.val, 0, 0] ∧ cc0_transform_3 (grid0.coords t) = ![t.val, 0, 0]
    ∧ cc0_transform_4 (grid0.coords t) = ![t.val, 0, 0] ∧ cc0_transform_5 (grid0.coords t) = ![t.val, 0, 0]
    ∧ cc0_transform_6 (grid0.coords t) = ![t.val, 0, 0] ∧ cc0_transform_7 (grid0.coords t) = ![t.val, 0, 0] :=
  (by decide +kernel : ∀ t : Fin grid0.N, (grid0.coords t 0).val = t.val
    ∧ cc0_transform_0 (grid0.coords t) = ![t.val, 0, 0] ∧ cc0_transform_1 (grid0.coords t) = ![t.val, 0, 0]
    ∧ cc0_transform_2 (grid0.coords t) = ![t.val, 0, 0] ∧ cc0_transform_3 (grid0.coords t) = ![t.val, 0, 0]
    ∧ cc0_transform_4 (grid0.coords t) = ![t.val, 0, 0] ∧ cc0_transform_5 (grid0.coords t) = ![t.val, 0, 0]
    ∧ cc0_transform_6 (grid0.coords t) = ![t.val, 0, 0] ∧ cc0_transform_7 (grid0.coords t) = ![t.val, 0, 0]) t

/-- A block index of the form `(t, 0, 0)` places a block's index `(0, j, k)` at `(t, j, k)`. -/
theorem place {T : Fin 3 → Nat} {t : Nat} (hT : T = ![t, 0, 0]) (n1 n2 z j k : Nat) (hz : z < 1) :
    T 0 * 1 + 1 * z = t ∧ T 1 * n1 + 1 * j = j ∧ T 2 * n2 + 1 * k = k := by
  subst hT
  refine ⟨?_, ?_, ?_⟩
  · show t * 1 + 1 * z = t; omega
  · show 0 * n1 + 1 * j = j; omega
  · show 0 * n2 + 1 * k = k; omega

/-- Window 0's block at point `t` is sequence `t`. -/
theorem emb0 (hO : Ok m) (t : Fin (cfgM m hO).N) (y : S1x20x512.Idx) :
    (((cfgM m hO).win 0).blk t).view.emb y = ix3 (n0 := 300) ⟨t.val, t.isLt⟩ (y 1) (y 2) := by
  have h := place ((starts t).2.1) 20 512 (y 0).val (y 1).val (y 2).val (y 0).isLt
  exact funext fun a => Fin.ext (match a with | ⟨0, _⟩ => h.1 | ⟨1, _⟩ => h.2.1 | ⟨2, _⟩ => h.2.2)

/-- Window 1's block at point `t` is sequence `t`. -/
theorem emb1 (hO : Ok m) (t : Fin (cfgM m hO).N) (y : S1x20x64.Idx) :
    (((cfgM m hO).win 1).blk t).view.emb y = ix3 (n0 := 300) ⟨t.val, t.isLt⟩ (y 1) (y 2) := by
  have h := place ((starts t).2.2.1) 20 64 (y 0).val (y 1).val (y 2).val (y 0).isLt
  exact funext fun a => Fin.ext (match a with | ⟨0, _⟩ => h.1 | ⟨1, _⟩ => h.2.1 | ⟨2, _⟩ => h.2.2)

/-- Window 2's block at point `t` is sequence `t`. -/
theorem emb2 (hO : Ok m) (t : Fin (cfgM m hO).N) (y : S1x1x512.Idx) :
    (((cfgM m hO).win 2).blk t).view.emb y = ix3 (n0 := 300) ⟨t.val, t.isLt⟩ (y 1) (y 2) := by
  have h := place ((starts t).2.2.2.1) 1 512 (y 0).val (y 1).val (y 2).val (y 0).isLt
  exact funext fun a => Fin.ext (match a with | ⟨0, _⟩ => h.1 | ⟨1, _⟩ => h.2.1 | ⟨2, _⟩ => h.2.2)

/-- Window 3's block at point `t` is sequence `t`. -/
theorem emb3 (hO : Ok m) (t : Fin (cfgM m hO).N) (y : S1x1x64.Idx) :
    (((cfgM m hO).win 3).blk t).view.emb y = ix3 (n0 := 300) ⟨t.val, t.isLt⟩ (y 1) (y 2) := by
  have h := place ((starts t).2.2.2.2.1) 1 64 (y 0).val (y 1).val (y 2).val (y 0).isLt
  exact funext fun a => Fin.ext (match a with | ⟨0, _⟩ => h.1 | ⟨1, _⟩ => h.2.1 | ⟨2, _⟩ => h.2.2)

/-- Window 4's block at point `t` is sequence `t`. -/
theorem emb4 (hO : Ok m) (t : Fin (cfgM m hO).N) (y : S1x1920x512.Idx) :
    (((cfgM m hO).win 4).blk t).view.emb y = ix3 (n0 := 300) ⟨t.val, t.isLt⟩ (y 1) (y 2) := by
  have h := place ((starts t).2.2.2.2.2.1) 1920 512 (y 0).val (y 1).val (y 2).val (y 0).isLt
  exact funext fun a => Fin.ext (match a with | ⟨0, _⟩ => h.1 | ⟨1, _⟩ => h.2.1 | ⟨2, _⟩ => h.2.2)

/-- Window 5's block at point `t` is sequence `t`. -/
theorem emb5 (hO : Ok m) (t : Fin (cfgM m hO).N) (y : S1x4x1920.Idx) :
    (((cfgM m hO).win 5).blk t).view.emb y = ix3 (n0 := 300) ⟨t.val, t.isLt⟩ (y 1) (y 2) := by
  have h := place ((starts t).2.2.2.2.2.2.1) 4 1920 (y 0).val (y 1).val (y 2).val (y 0).isLt
  exact funext fun a => Fin.ext (match a with | ⟨0, _⟩ => h.1 | ⟨1, _⟩ => h.2.1 | ⟨2, _⟩ => h.2.2)

/-- Window 6's block at point `t` is sequence `t`. -/
theorem emb6 (hO : Ok m) (t : Fin (cfgM m hO).N) (y : S1x64x1920.Idx) :
    (((cfgM m hO).win 6).blk t).view.emb y = ix3 (n0 := 300) ⟨t.val, t.isLt⟩ (y 1) (y 2) := by
  have h := place ((starts t).2.2.2.2.2.2.2.1) 64 1920 (y 0).val (y 1).val (y 2).val (y 0).isLt
  exact funext fun a => Fin.ext (match a with | ⟨0, _⟩ => h.1 | ⟨1, _⟩ => h.2.1 | ⟨2, _⟩ => h.2.2)

/-- Window 7's block at point `t` is sequence `t`. -/
theorem emb7 (hO : Ok m) (t : Fin (cfgM m hO).N) (y : S1x20x512.Idx) :
    (((cfgM m hO).win 7).blk t).view.emb y = ix3 (n0 := 300) ⟨t.val, t.isLt⟩ (y 1) (y 2) := by
  have h := place ((starts t).2.2.2.2.2.2.2.2) 20 512 (y 0).val (y 1).val (y 2).val (y 0).isLt
  exact funext fun a => Fin.ext (match a with | ⟨0, _⟩ => h.1 | ⟨1, _⟩ => h.2.1 | ⟨2, _⟩ => h.2.2)

/-- Window 0's block at point `t`, at an index. -/
theorem blk0 (hO : Ok m) (t : Fin (cfgM m hO).N) (h : Fin 20) (l : Fin 512) :
    iblk m hO c 0 t (ix3 (0 : Fin 1) h l) = m ((c : Thread nD τ).loc main_arg0) (ix4 (n0 := 300) ⟨t.val, t.isLt⟩ (0 : Fin 1) h l) := by
  unfold iblk
  blk_simp
  exact (congrArg (V m c (Pipeline.arrRef spec0 0)) (emb0 m hO t _)).trans (V_v0 m c _ h l)

/-- Window 1's block at point `t`, at an index. -/
theorem blk1 (hO : Ok m) (t : Fin (cfgM m hO).N) (h : Fin 20) (k : Fin 64) :
    iblk m hO c 1 t (ix3 (0 : Fin 1) h k) = m ((c : Thread nD τ).loc main_arg1) (ix4 (n0 := 300) ⟨t.val, t.isLt⟩ (0 : Fin 1) h k) := by
  unfold iblk
  blk_simp
  exact (congrArg (V m c (Pipeline.arrRef spec0 1)) (emb1 m hO t _)).trans (V_v1 m c _ h k)

/-- Window 2's block at point `t`, at an index. -/
theorem blk2 (hO : Ok m) (t : Fin (cfgM m hO).N) (z : Fin 1) (l : Fin 512) :
    iblk m hO c 2 t (ix3 (0 : Fin 1) z l) = m ((c : Thread nD τ).loc main_arg2) (ix3 (n0 := 300) ⟨t.val, t.isLt⟩ z l) := by
  unfold iblk
  blk_simp
  exact (congrArg (V m c (Pipeline.arrRef spec0 2)) (emb2 m hO t _)).trans (congrFun (V_main_arg2 m c) _)

/-- Window 3's block at point `t`, at an index. -/
theorem blk3 (hO : Ok m) (t : Fin (cfgM m hO).N) (z : Fin 1) (k : Fin 64) :
    iblk m hO c 3 t (ix3 (0 : Fin 1) z k) = m ((c : Thread nD τ).loc main_arg3) (ix3 (n0 := 300) ⟨t.val, t.isLt⟩ z k) := by
  unfold iblk
  blk_simp
  exact (congrArg (V m c (Pipeline.arrRef spec0 3)) (emb3 m hO t _)).trans (congrFun (V_main_arg3 m c) _)

/-- Window 4's block at point `t`, at an index. -/
theorem blk4 (hO : Ok m) (t : Fin (cfgM m hO).N) (p : Fin 1920) (l : Fin 512) :
    iblk m hO c 4 t (ix3 (0 : Fin 1) p l) = m ((c : Thread nD τ).loc main_arg4) (ix3 (n0 := 300) ⟨t.val, t.isLt⟩ p l) := by
  unfold iblk
  blk_simp
  exact (congrArg (V m c (Pipeline.arrRef spec0 4)) (emb4 m hO t _)).trans (congrFun (V_main_arg4 m c) _)

/-- Window 5's block at point `t`, at an index. -/
theorem blk5 (hO : Ok m) (t : Fin (cfgM m hO).N) (g : Fin 4) (p : Fin 1920) :
    iblk m hO c 5 t (ix3 (0 : Fin 1) g p) = m ((c : Thread nD τ).loc main_arg5) (ix3 (n0 := 300) ⟨t.val, t.isLt⟩ p g) := by
  unfold iblk
  blk_simp
  exact (congrArg (V m c (Pipeline.arrRef spec0 5)) (emb5 m hO t _)).trans (V_v2 m c _ g p)

/-- Window 6's block at point `t`, at an index. -/
theorem blk6 (hO : Ok m) (t : Fin (cfgM m hO).N) (k : Fin 64) (p : Fin 1920) :
    iblk m hO c 6 t (ix3 (0 : Fin 1) k p) = m ((c : Thread nD τ).loc main_arg6) (ix3 (n0 := 300) ⟨t.val, t.isLt⟩ p k) := by
  unfold iblk
  blk_simp
  exact (congrArg (V m c (Pipeline.arrRef spec0 6)) (emb6 m hO t _)).trans (V_v3 m c _ k p)

/-- The row that point `t`'s blocks hold is the row of sequence `t`. -/
theorem blockRow_eq (hO : Ok m) (t : Fin (cfgM m hO).N) (h : Fin 20) :
    blockRow (iblk m hO c 0 t) (iblk m hO c 1 t) (iblk m hO c 2 t) (iblk m hO c 3 t) (iblk m hO c 4 t) (iblk m hO c 5 t)
      (iblk m hO c 6 t) (m ((c : Thread nD τ).loc main_arg7) (ix1 (⟨t.val, t.isLt⟩ : Fin 300))) h
      = memRow m c ⟨t.val, t.isLt⟩ h :=
  Row.ext' (blk0 m c hO t h) (blk1 m c hO t h) (blk2 m c hO t 0) (blk3 m c hO t 0) (blk4 m c hO t) (fun p g => blk5 m c hO t g p)
    (fun p k => blk6 m c hO t k p) rfl

/-- What the body leaves at point `t` is block `t` of the result. -/
theorem outs_eq (hO : Ok m) (t : Fin (cfgM m hO).N) (y : S1x20x512.Idx) :
    outsAt0 m hO c t y = result3 m c (ix3 (n0 := 300) ⟨t.val, t.isLt⟩ (y 1) (y 2)) := by
  obtain ⟨g, cc, hl⟩ := exists_col (y 2)
  have hy : y = ix3 (0 : Fin 1) (y 1) (col g cc) := by
    rw [← hl]
    exact funext fun a => match a with | ⟨0, _⟩ => Subsingleton.elim (α := Fin 1) _ _ | ⟨1, _⟩ => rfl | ⟨2, _⟩ => rfl
  have hlen : tbl m 0 (ix1 (n0 := 300) (grid0.coords t 0)) = m ((c : Thread nD τ).loc main_arg7) (ix1 (⟨t.val, t.isLt⟩ : Fin 300)) := by
    rw [tbl_eq m c]
    exact congrArg (fun k : Fin 300 => m ((c : Thread nD τ).loc main_arg7) (ix1 k)) (Fin.ext (starts t).1)
  rw [hy]
  refine (out_at _ _ _ _ _ _ _ c (grid0.coords t) _ _ _ _ _ _ _ _ _ _ _ _ _ _ _ _ (tbl m 0) _ hlen (y 1) g cc).trans ?_
  rw [blockRow_eq m c hO t (y 1)]
  unfold result3
  show _ = out (memRow m c _ (y 1)) (grp (col g cc)) (lane (col g cc))
  rw [grp_col, lane_col]
  rfl

/-- Every index of sequence `t` lies in window 7's block at point `t`. -/
theorem mem7 (hO : Ok m) (t : Fin (cfgM m hO).N) (i : S300x20x512.Idx) (hi : (i 0).val = t.val) :
    i ∈ (((cfgM m hO).win 7).blk t).view.set := by
  have h := emb7 m hO t (ix3 (0 : Fin 1) (i 1) (i 2))
  have e : ix3 (n0 := 300) ⟨t.val, t.isLt⟩ (i 1) (i 2) = i :=
    funext fun a => match a with | ⟨0, _⟩ => Fin.ext hi.symm | ⟨1, _⟩ => rfl | ⟨2, _⟩ => rfl
  have hm := View.emb_mem_set (((cfgM m hO).win 7).blk t).view (ix3 (0 : Fin 1) (i 1) (i 2))
  exact Eq.mp (congrArg (· ∈ (((cfgM m hO).win 7).blk t).view.set) (h.trans e)) hm

/-- THE RESULT ARRAY after the run: every point writes its block back, and the blocks are the array. -/
theorem final_o (hO : Ok m) : (dats m hO 0 c).arrAt 7 (cfgM m hO).N = result3 m c := by
  refine (dats m hO 0 c).arrAt_eq_of_emb 7 _ (fun t hf y => ?_) fun (i : S300x20x512.Idx) =>
    ⟨⟨(i 0).val, (i 0).isLt⟩, flush0_7 _ _, mem7 m hO _ i rfl⟩
  rw [after0_7]
  blk_simp
  exact (outs_eq m c hO t y).trans (congrArg (result3 m c) (emb7 m hO t y)).symm

/-- The eight windows have arrays of their own. -/
theorem arr_inj : Function.Injective (Pipeline.arrRef spec0) := by decide

/-- The kernel's result. -/
def result : Buf (Elt Ideal) ((c : Thread nD τ).loc main_v5) := fun j =>
  out (memRow m c (j 0) (j 2)) (grp (j 3)) (lane (j 3))

/-- What the last reshape leaves in the result array. -/
theorem tail_eq (hO : Ok m) : Pipeline.afterTail pcfgs (fun _ => adm m hO) (dats m hO) 0 (V0 m) [hostOps1] c main_v5 = result m c := by
  unfold Pipeline.afterTail
  rw [List.flatten_cons, List.flatten_nil, List.append_nil]
  funext (j : S300x1x20x512.Idx)
  have e : Pipeline.withArrays spec0 c (V0 m c) (fun w => (dats m hO 0 c).arrAt w (cfgM m hO).N) (Proc.devRef .tc main_v4) = result3 m c :=
    (Pipeline.withArrays_arr spec0 arr_inj c (V0 m c) _ 7).trans (final_o m c hO)
  generalize hW : Pipeline.withArrays spec0 c (V0 m c) (fun w => (dats m hO 0 c).arrAt w (cfgM m hO).N) = W at e
  show StableHlo.after hostOps1 W (Proc.devRef .tc main_v5) j = _
  after_results
  rw [e]
  obtain ⟨b, z, h, l, rfl⟩ : ∃ (b : Fin 300) (z : Fin 1) (h : Fin 20) (l : Fin 512), j = ix4 b z h l :=
    ⟨j 0, j 1, j 2, j 3, funext fun a => match a with | ⟨0, _⟩ => rfl | ⟨1, _⟩ => rfl | ⟨2, _⟩ => rfl | ⟨3, _⟩ => rfl⟩
  pointwise
  rfl

/-- THE KERNEL'S RUN ends with its result in the result array, and with the arguments unchanged. -/
theorem run (hO : Ok m) : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun _ h c => ⟨((h.1 c).2 main_v5 (Pipeline.mem_restRefs_of main_v5 (by decide) (by exact (by decide : ∀ w, Pipeline.arrRef spec0 w ≠ main_v5)))).trans (tail_eq m c hO), h.2 c⟩)
    (θ_run_and (run_main m ρ hO) (unchanged m ρ hO))

end Cert.KernelIdeal.Body

end
-- ==== Proof.RefLogits.lean ====
/- What the reference's operations before the softmax compute: the logits of the cached positions and of the new one, at an
   index, from any contents of the arrays they start from. -/
module

public import proofs.«01_k».proof.Proof.Math
public import Idealize.ShloMosaic.Lib.Pipeline.ValueKit
public import Idealize.ShloMosaic.Lib.Tactic
public import proofs.«01_k».proof.Proof.Gen.ReferenceIdeal.Frame

@[expose] public section

set_option maxRecDepth 16384

noncomputable section

namespace Cert.ReferenceIdeal.Host

open Idealize.ShloMosaic Idealize.ShloMosaic.TcCoe Idealize.ShloMosaic.Pointwise Idealize.SL.Sem Cert.ReferenceIdeal Cert.ReferenceIdeal.Gen Cert.Math

variable (V : Valuation τ sig (Elt Ideal))

/-- The row of sequence `b` and head `h`: the arguments, the codes being the widened ones. -/
abbrev row (b : Fin 300) (h : Fin 20) : Row :=
  argRow (V (Proc.devRef .tc main_arg0)) (V (Proc.devRef .tc main_arg1)) (V (Proc.devRef .tc main_arg2))
    (V (Proc.devRef .tc main_arg3)) (V (Proc.devRef .tc main_v0)) (V (Proc.devRef .tc main_arg5))
    (V (Proc.devRef .tc main_arg6)) (V (Proc.devRef .tc main_arg7)) b h

/-- The contents after the first line of operations. -/
abbrev W1 : Valuation τ sig (Elt Ideal) := StableHlo.after hostOps1 V

/-- The grouped codes are the codes. -/
theorem v1_at (b : Fin 300) (p : Fin 1920) (g : Fin 4) (c : Fin 128) :
    W1 V (Proc.devRef .tc main_v1) (ix4 b p g c) = V (Proc.devRef .tc main_v0) (ix3 b p (col g c)) := by
  show StableHlo.after hostOps1 V (Proc.devRef .tc main_v1) (ix4 b p g c) = _
  after_results
  pointwise
  rfl

/-- The transposed scales are the scales. -/
theorem v3_at (b : Fin 300) (g : Fin 4) (p : Fin 1920) :
    W1 V (Proc.devRef .tc main_v3) (ix3 b g p) = V (Proc.devRef .tc main_arg5) (ix3 b p g) := by
  show StableHlo.after hostOps1 V (Proc.devRef .tc main_v3) (ix3 b g p) = _
  after_results
  pointwise

/-- The cached logits before the mask. -/
theorem v15_at (b : Fin 300) (h : Fin 20) (p : Fin 1920) :
    W1 V (Proc.devRef .tc main_v15) (ix4 b (0 : Fin 1) h p)
      = ((∑ g : Fin 4, groupDot (row V b h) p g) + ∑ k : Fin 64, (row V b h).q k * (row V b h).kr p k) * scale := by
  show StableHlo.after hostOps1 V (Proc.devRef .tc main_v15) (ix4 b (0 : Fin 1) h p) = _
  after_results
  pointwise
  refine congrArg (fun s => (s + _) * _) (Finset.sum_congr rfl fun g _ => congrArg (· * _) (Finset.sum_congr rfl fun k _ => mul_comm _ _))

/-- The new position's logit. -/
theorem v20_at (b : Fin 300) (h : Fin 20) :
    W1 V (Proc.devRef .tc main_v20) (ix4 b (0 : Fin 1) h (0 : Fin 1)) = newLogit (row V b h) := by
  show StableHlo.after hostOps1 V (Proc.devRef .tc main_v20) (ix4 b (0 : Fin 1) h (0 : Fin 1)) = _
  after_results
  pointwise
  rfl

/-- The mask of the cached positions. -/
theorem v27_at (b : Fin 300) (p : Fin 1920) :
    W1 V (Proc.devRef .tc main_v27) (ix4 b (0 : Fin 1) (0 : Fin 1) p)
      = IntOp.cmpi .slt (BitVec.ofNat 32 p.val) (V (Proc.devRef .tc main_arg7) (ix1 b)) := by
  show StableHlo.after hostOps1 V (Proc.devRef .tc main_v27) (ix4 b (0 : Fin 1) (0 : Fin 1) p) = _
  after_results
  pointwise

/-- The masked-out value is the least extended real. -/
theorem cst_2_at (j : S_.Idx) : W1 V (Proc.devRef .tc main_cst_2) j = (⊥ : EReal) := by
  show StableHlo.after hostOps1 V (Proc.devRef .tc main_cst_2) j = _
  after_results
  exact ofBits_neg_inf

end Cert.ReferenceIdeal.Host

end
-- ==== Proof.RefSoftmax.lean ====
/- What the reference's operations from the softmax on compute, from any contents of the arrays they start from. -/
module

public import proofs.«01_k».proof.Proof.Math
public import Idealize.ShloMosaic.Lib.Pipeline.ValueKit
public import Idealize.ShloMosaic.Lib.Tactic
public import proofs.«01_k».proof.Proof.Gen.ReferenceIdeal.Frame

@[expose] public section

set_option maxRecDepth 16384

noncomputable section

namespace Cert.ReferenceIdeal.Host

open Idealize.ShloMosaic Idealize.ShloMosaic.TcCoe Idealize.ShloMosaic.Pointwise Idealize.SL.Sem Cert.ReferenceIdeal Cert.ReferenceIdeal.Gen Cert.Math

variable (V : Valuation τ sig (Elt Ideal))

/-- The masked cached logits: the logit where the mask holds, the masked-out value elsewhere. -/
theorem v28_at (b : Fin 300) (h : Fin 20) (p : Fin 1920) :
    StableHlo.after hostOps1_1 V (Proc.devRef .tc main_v28) (ix4 b (0 : Fin 1) h p)
      = Scalar.select (V (Proc.devRef .tc main_v27) (ix4 b (0 : Fin 1) (0 : Fin 1) p)) (V (Proc.devRef .tc main_v15) (ix4 b (0 : Fin 1) h p))
          (V (Proc.devRef .tc main_cst_2) ix0) := by
  after_results
  show select (broadcastInDim S300x1x20x1920 ![0, 1, 2, 3] bcast_S300x1x1x1920_S300x1x20x1920_0_1_2_3
      (V (Proc.devRef .tc main_v27) : (⟨S300x1x1x1920, .i1⟩ : BufTy).Contents (Elt Ideal))) (V (Proc.devRef .tc main_v15))
    (broadcastInDim S300x1x20x1920 ![] bcast_S_S300x1x20x1920
      (V (Proc.devRef .tc main_cst_2) : (⟨S_, .f32⟩ : BufTy).Contents (Elt Ideal))) (ix4 b (0 : Fin 1) h p) = _
  pointwise

/-- The causal mask of the one new position holds. -/
theorem v34_at : StableHlo.after hostOps1_2 V (Proc.devRef .tc main_v34) (ix4 (0 : Fin 1) (0 : Fin 1) (0 : Fin 1) (0 : Fin 1)) = 1#1 := by
  after_results
  pointwise
  rfl

/-- The new position's logit under the causal mask. -/
theorem v35_at (b : Fin 300) (h : Fin 20) :
    StableHlo.after hostOps1_3 V (Proc.devRef .tc main_v35) (ix4 b (0 : Fin 1) h (0 : Fin 1))
      = Scalar.select (V (Proc.devRef .tc main_v34) (ix4 (0 : Fin 1) (0 : Fin 1) (0 : Fin 1) (0 : Fin 1)))
          (V (Proc.devRef .tc main_v20) (ix4 b (0 : Fin 1) h (0 : Fin 1))) (V (Proc.devRef .tc main_cst_3) ix0) := by
  after_results
  show select (broadcastInDim S300x1x20x1 ![0, 1, 2, 3] bcast_S1x1x1x1_S300x1x20x1_0_1_2_3
      (V (Proc.devRef .tc main_v34) : (⟨S1x1x1x1, .i1⟩ : BufTy).Contents (Elt Ideal))) (V (Proc.devRef .tc main_v20))
    (broadcastInDim S300x1x20x1 ![] bcast_S_S300x1x20x1
      (V (Proc.devRef .tc main_cst_3) : (⟨S_, .f32⟩ : BufTy).Contents (Elt Ideal))) (ix4 b (0 : Fin 1) h (0 : Fin 1)) = _
  pointwise

/-- The contents after the largest logit. -/
abbrev X0 : Valuation τ sig (Elt Ideal) := StableHlo.after (hostOps1_4.take 5) V
/-- The contents after the two rows of exponentials. -/
abbrev X1 : Valuation τ sig (Elt Ideal) := StableHlo.after ((hostOps1_4.drop 5).take 6) V
/-- The contents after the denominator. -/
abbrev X2 : Valuation τ sig (Elt Ideal) := StableHlo.after ((hostOps1_4.drop 11).take 7) V

/-- The last line of operations, in four parts. -/
theorem after_parts : StableHlo.after hostOps1_4 V = StableHlo.after (hostOps1_4.drop 18) (X2 (X1 (X0 V))) := rfl

section
variable (b : Fin 300) (h : Fin 20) (g : Fin 4) (c : Fin 128) (r : Row)

/-- The maximum over the cached positions. -/
theorem cached_max (x : (⟨S300x1x20x1920, .f32⟩ : BufTy).Contents (Elt Ideal)) :
    Host.reduce (FloatOps.maximumf (F := Ideal) (φ := .f32)) x (constant (F := Ideal) S_ .f32 0xFF800000#32)
      reducesTo_S300x1x20x1920_S300x1x20_d3 h_S_ (ix3 b (0 : Fin 1) h)
      = Finset.fold max (Ideal.ofBits .f32 0xFF800000#32) (fun p => x (ix4 b (0 : Fin 1) h p)) Finset.univ := by
  pointwise

/-- The maximum over the one new position. -/
theorem new_max (x : (⟨S300x1x20x1, .f32⟩ : BufTy).Contents (Elt Ideal)) :
    Host.reduce (FloatOps.maximumf (F := Ideal) (φ := .f32)) x (constant (F := Ideal) S_ .f32 0xFF800000#32)
      reducesTo_S300x1x20x1_S300x1x20_d3 h_S_ (ix3 b (0 : Fin 1) h)
      = Finset.fold max (Ideal.ofBits .f32 0xFF800000#32) (fun p => x (ix4 b (0 : Fin 1) h p)) Finset.univ := by
  pointwise

/-- The largest logit as both rows' maxima give it. -/
theorem top_eq (e : Fin 1920 → EReal) (f : Fin 1 → EReal) (he : ∀ p, e p = logit r p) (hf : f 0 = newLogit r) :
    max (Finset.fold max (Ideal.ofBits .f32 0xFF800000#32) e Finset.univ)
      (Finset.fold max (Ideal.ofBits .f32 0xFF800000#32) f Finset.univ) = top r := by
  rw [ofBits_neg_inf, show (Finset.univ : Finset (Fin 1)) = {0} from rfl, Finset.fold_singleton, hf, max_bot_right, funext he]
  rfl

/-- The larger of two arrays, at an index. -/
theorem max_at {S : Shape} (x y : S.Idx → EReal) (i : S.Idx) :
    (maximumf (F := Ideal) (φ := .f32) x y : S.Idx → EReal) i = max (x i) (y i) := rfl

/-- The larger of both maxima, at an index. -/
theorem both_max (x : (⟨S300x1x20x1920, .f32⟩ : BufTy).Contents (Elt Ideal)) (y : (⟨S300x1x20x1, .f32⟩ : BufTy).Contents (Elt Ideal))
    (hx : ∀ p, x (ix4 b (0 : Fin 1) h p) = logit r p) (hy : y (ix4 b (0 : Fin 1) h (0 : Fin 1)) = newLogit r) :
    maximumf (F := Ideal) (φ := .f32)
      (Host.reduce (FloatOps.maximumf (F := Ideal) (φ := .f32)) x (constant (F := Ideal) S_ .f32 0xFF800000#32)
        reducesTo_S300x1x20x1920_S300x1x20_d3 h_S_)
      (Host.reduce (FloatOps.maximumf (F := Ideal) (φ := .f32)) y (constant (F := Ideal) S_ .f32 0xFF800000#32)
        reducesTo_S300x1x20x1_S300x1x20_d3 h_S_) (ix3 b (0 : Fin 1) h) = top r := by
  refine (max_at _ _ _).trans ?_
  rw [cached_max, new_max]
  exact top_eq r _ _ hx hy

/-- The maximum of both rows' maxima is the largest logit. -/
theorem v38_at (h28 : ∀ p, V (Proc.devRef .tc main_v28) (ix4 b (0 : Fin 1) h p) = logit r p)
    (h35 : V (Proc.devRef .tc main_v35) (ix4 b (0 : Fin 1) h (0 : Fin 1)) = newLogit r) :
    X0 V (Proc.devRef .tc main_v38) (ix3 b (0 : Fin 1) h) = top r := by
  simp only [X0, List.take_succ_cons, List.take_zero]
  after_results
  exact both_max b h r _ _ h28 h35

/-- The exponentials of the cached logits are the weights. -/
theorem v42_at (h28 : ∀ p, V (Proc.devRef .tc main_v28) (ix4 b (0 : Fin 1) h p) = logit r p)
    (h38 : V (Proc.devRef .tc main_v38) (ix3 b (0 : Fin 1) h) = top r) (p : Fin 1920) :
    X1 V (Proc.devRef .tc main_v42) (ix4 b (0 : Fin 1) h p) = weight r p := by
  simp only [X1, List.drop_succ_cons, List.drop_zero, List.take_succ_cons, List.take_zero]
  after_results
  pointwise
  rw [h28, h38]
  rfl

/-- The exponential of the new logit is its weight. -/
theorem v44_at (h35 : V (Proc.devRef .tc main_v35) (ix4 b (0 : Fin 1) h (0 : Fin 1)) = newLogit r)
    (h38 : V (Proc.devRef .tc main_v38) (ix3 b (0 : Fin 1) h) = top r) :
    X1 V (Proc.devRef .tc main_v44) (ix4 b (0 : Fin 1) h (0 : Fin 1)) = newWeight r := by
  simp only [X1, List.drop_succ_cons, List.drop_zero, List.take_succ_cons, List.take_zero]
  after_results
  pointwise
  rw [h35, h38]
  rfl

/-- The sum of the weights is the denominator. -/
theorem v49_at (h42 : ∀ p, V (Proc.devRef .tc main_v42) (ix4 b (0 : Fin 1) h p) = weight r p)
    (h44 : V (Proc.devRef .tc main_v44) (ix4 b (0 : Fin 1) h (0 : Fin 1)) = newWeight r) :
    X2 V (Proc.devRef .tc main_v49) (ix4 b (0 : Fin 1) h (0 : Fin 1)) = denom r := by
  simp only [X2, List.drop_succ_cons, List.drop_zero, List.take_succ_cons, List.take_zero]
  after_results
  pointwise
  simp only [h42]
  rw [Fin.sum_univ_one, h44]
  rfl

/-- The output, from the weights, the denominator, the grouped codes, the scales and the new latent vector. -/
theorem v65_of (h42 : ∀ p, V (Proc.devRef .tc main_v42) (ix4 b (0 : Fin 1) h p) = weight r p)
    (h44 : V (Proc.devRef .tc main_v44) (ix4 b (0 : Fin 1) h (0 : Fin 1)) = newWeight r)
    (h49 : V (Proc.devRef .tc main_v49) (ix4 b (0 : Fin 1) h (0 : Fin 1)) = denom r)
    (h1 : ∀ p g c, V (Proc.devRef .tc main_v1) (ix4 b p g c) = r.code p (col g c))
    (h3 : ∀ p g, V (Proc.devRef .tc main_v3) (ix3 b g p) = r.sc p g)
    (h2 : ∀ l, V (Proc.devRef .tc main_arg2) (ix3 b (0 : Fin 1) l) = r.vn l) :
    StableHlo.after (hostOps1_4.drop 18) V (Proc.devRef .tc main_v65) (ix4 b (0 : Fin 1) h (col g c)) = out r g c := by
  simp only [List.drop_succ_cons, List.drop_zero]
  after_results
  pointwise
  simp only [h42, h49, h1, h3]
  rw [Fin.sum_univ_one, h44, h49, h2]
  refine congrArg (· + _) (Finset.sum_congr rfl fun p _ => ?_)
  rw [mul_comm]
  exact congrArg₂ (fun g' c' => Ideal.div (weight r p) (denom r) * r.sc p g' * r.code p (col g' c')) (grp_col g c) (lane_col g c)

/-- The result, from the masked logits, the new logit, the grouped codes, the scales and the new latent vector. -/
theorem v65_at (h28 : ∀ p, V (Proc.devRef .tc main_v28) (ix4 b (0 : Fin 1) h p) = logit r p)
    (h35 : V (Proc.devRef .tc main_v35) (ix4 b (0 : Fin 1) h (0 : Fin 1)) = newLogit r)
    (h1 : ∀ p g c, V (Proc.devRef .tc main_v1) (ix4 b p g c) = r.code p (col g c))
    (h3 : ∀ p g, V (Proc.devRef .tc main_v3) (ix3 b g p) = r.sc p g)
    (h2 : ∀ l, V (Proc.devRef .tc main_arg2) (ix3 b (0 : Fin 1) l) = r.vn l) :
    StableHlo.after hostOps1_4 V (Proc.devRef .tc main_v65) (ix4 b (0 : Fin 1) h (col g c)) = out r g c := by
  rw [after_parts]
  have k38 := v38_at V b h r h28 h35
  have k42 := v42_at (X0 V) b h r h28 k38
  have k44 := v44_at (X0 V) b h r h35 k38
  exact v65_of _ b h g c r k42 k44 (v49_at _ b h r k42 k44) h1 h3 h2

end

end Cert.ReferenceIdeal.Host

end
-- ==== Proof.RefValue.lean ====
/- What the reference's result array ends holding: at every index, the output of the row of its sequence and head. -/
module

public import proofs.«01_k».proof.Proof.RefLogits
public import proofs.«01_k».proof.Proof.RefSoftmax

@[expose] public section

set_option maxRecDepth 16384

noncomputable section

namespace Cert.ReferenceIdeal.Host

open Idealize.ShloMosaic Idealize.ShloMosaic.TcCoe Idealize.ShloMosaic.Pointwise Idealize.SL.Sem Cert.ReferenceIdeal Cert.ReferenceIdeal.Gen Cert.Math

section
variable (V : Valuation τ sig (Elt Ideal)) (b : Fin 300) (h : Fin 20) (g : Fin 4) (c : Fin 128)

/-- The contents after the masked cached logits. -/
abbrev W2 : Valuation τ sig (Elt Ideal) := StableHlo.after hostOps1_1 (W1 V)
/-- The contents after the causal mask. -/
abbrev W3 : Valuation τ sig (Elt Ideal) := StableHlo.after hostOps1_2 (W2 V)
/-- The contents after the masked new logit. -/
abbrev W4 : Valuation τ sig (Elt Ideal) := StableHlo.after hostOps1_3 (W3 V)

/-- A buffer that no operation between the first line and the softmax writes keeps its contents. -/
theorem W4_keep {r : Ref sig .tc} (h1 : r ∉ hostOps1_1_W) (h2 : r ∉ hostOps1_2_W) (h3 : r ∉ hostOps1_3_W) :
    W4 V (Proc.devRef .tc r) = W1 V (Proc.devRef .tc r) :=
  (StableHlo.after_of_writes_sub (r := r) hostOps1_3 _ hostOps1_3_writes h3).trans
    ((StableHlo.after_of_writes_sub (r := r) hostOps1_2 _ hostOps1_2_writes h2).trans
      (StableHlo.after_of_writes_sub (r := r) hostOps1_1 _ hostOps1_1_writes h1))

/-- The masked cached logits are the row's. -/
theorem W4_v28 (p : Fin 1920) : W4 V (Proc.devRef .tc main_v28) (ix4 b (0 : Fin 1) h p) = logit (row V b h) p := by
  have e : W4 V (Proc.devRef .tc main_v28) = W2 V (Proc.devRef .tc main_v28) :=
    (StableHlo.after_of_writes_sub (r := main_v28) hostOps1_3 _ hostOps1_3_writes (by decide +kernel)).trans
      (StableHlo.after_of_writes_sub (r := main_v28) hostOps1_2 _ hostOps1_2_writes (by decide +kernel))
  refine (congrFun e _).trans ((v28_at (W1 V) b h p).trans ?_)
  rw [v27_at, v15_at, cst_2_at]
  rfl

/-- The masked new logit is the row's. -/
theorem W4_v35 : W4 V (Proc.devRef .tc main_v35) (ix4 b (0 : Fin 1) h (0 : Fin 1)) = newLogit (row V b h) := by
  refine (v35_at (W3 V) b h).trans ?_
  rw [show W3 V (Proc.devRef .tc main_v34) (ix4 (0 : Fin 1) (0 : Fin 1) (0 : Fin 1) (0 : Fin 1)) = 1#1 from v34_at (W2 V)]
  have e : W3 V (Proc.devRef .tc main_v20) = W1 V (Proc.devRef .tc main_v20) :=
    (StableHlo.after_of_writes_sub (r := main_v20) hostOps1_2 _ hostOps1_2_writes (by decide +kernel)).trans
      (StableHlo.after_of_writes_sub (r := main_v20) hostOps1_1 _ hostOps1_1_writes (by decide +kernel))
  exact (congrFun e _).trans (v20_at V b h)

/-- The new latent vector is unchanged. -/
theorem W4_arg2 : W4 V (Proc.devRef .tc main_arg2) = V (Proc.devRef .tc main_arg2) :=
  (W4_keep V (r := main_arg2) (by decide +kernel) (by decide +kernel) (by decide +kernel)).trans
    (StableHlo.after_of_writes_sub (r := main_arg2) hostOps1 _ hostOps1_writes (by decide +kernel))

/-- THE REFERENCE'S OPERATIONS compute the output of every row. -/
theorem result_at : StableHlo.after hostOps1_4 (W4 V) (Proc.devRef .tc main_v65) (ix4 b (0 : Fin 1) h (col g c))
    = out (row V b h) g c := by
  refine v65_at (W4 V) b h g c (row V b h) (W4_v28 V b h) (W4_v35 V b h) (fun p g c => ?_) (fun p g => ?_) fun l => ?_
  · exact (congrFun (W4_keep V (r := main_v1) (by decide +kernel) (by decide +kernel) (by decide +kernel)) _).trans (v1_at V b p g c)
  · exact (congrFun (W4_keep V (r := main_v3) (by decide +kernel) (by decide +kernel) (by decide +kernel)) _).trans (v3_at V b g p)
  · exact congrFun (W4_arg2 V) _

end

variable (m : (ℓ : Loc nD τ sig) → Buf (Elt Ideal) ℓ) (ρ : Dev nD → PrngReg) (c : Dev nD)

/-- The widening stores what it loads. -/
theorem widen_at (x : Vec Ideal S300x1920x512 .fp8e4m3) (y : S300x1920x512.Idx) : out0_1 x y = x y := by
  unfold out0_1
  rw [View.canon_cons_unit_lit _ _ _ (by decide), View.ld_unit_lit _ _ (by decide)]
  rfl

/-- The codes, as the widened array's contents. -/
def codes : Buf (Elt Ideal) ((c : Thread nD τ).loc main_v0) := fun j => m ((c : Thread nD τ).loc main_arg4) j

/-- The one point's blocks start at their arrays' start. -/
theorem idx : ∀ t : Fin cfg0.N, win0_0.index t = ![0, 0, 0] ∧ win0_1.index t = ![0, 0, 0] :=
  (by decide +kernel : ∀ t : Fin grid0.N, _)

/-- The one point's block of the codes is all of them. -/
theorem iblk0 : iblk m c 0 t0_0 = m ((c : Thread nD τ).loc main_arg4) := by
  blk_ext! [iblk, V, idx t0_0]

/-- The window of the widened codes is written back once, whole. -/
theorem whole1 : (cfg0.win 1).WholeAt t0_0 := by decide +kernel

/-- The widened codes are the codes. -/
theorem codes_eq : (dats m 0 c).arrAt 1 cfg0.N = codes m c := by
  refine (dats m 0 c).arrAt_eq_of_after_last 1 t0_0 whole1 _ fun j => ?_
  blk_simp
  rw [after0_1]
  exact (widen_at (iblk m c 0 t0_0) j).trans (congrFun (iblk0 m c) j)

/-- The row of sequence `b` and head `h`, read off the memory's arguments. -/
abbrev memRow (b : Fin 300) (h : Fin 20) : Row :=
  argRow (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) b h

/-- The contents after the widening, where the reference's operations start. -/
abbrev U : Valuation τ sig (Elt Ideal) :=
  Pipeline.withArrays (cfgs 0).spec c (V0 m c) fun w => (dats m 0 c).arrAt w (cfgs 0).N

/-- The widening leaves what is no window's array. -/
theorem U_keep (r : Ref sig .tc) (hr : ∀ w, Pipeline.arrRef spec0 w ≠ r) : U m c (Proc.devRef .tc r) = m ((c : Thread nD τ).loc r) :=
  Pipeline.withArrays_of_ne _ c (V0 m c) _ r hr

/-- The two windows have arrays of their own. -/
theorem arr_inj : Function.Injective (Pipeline.arrRef spec0) := by decide

/-- After the widening the widened array holds the codes. -/
theorem U_v0 : U m c (Proc.devRef .tc main_v0) = codes m c :=
  (Pipeline.withArrays_arr spec0 arr_inj c (V0 m c) (fun w => (dats m 0 c).arrAt w (cfgs 0).N) 1).trans (codes_eq m c)

/-- The rows that the operations start from are the arguments' rows. -/
theorem row_eq (b : Fin 300) (h : Fin 20) : row (U m c) b h = memRow m c b h :=
  Row.ext' (fun _ => congrFun (U_keep m c main_arg0 (by decide)) _) (fun _ => congrFun (U_keep m c main_arg1 (by decide)) _)
    (fun _ => congrFun (U_keep m c main_arg2 (by decide)) _) (fun _ => congrFun (U_keep m c main_arg3 (by decide)) _)
    (fun _ _ => congrFun (U_v0 m c) _) (fun _ _ => congrFun (U_keep m c main_arg5 (by decide)) _)
    (fun _ _ => congrFun (U_keep m c main_arg6 (by decide)) _) (congrFun (U_keep m c main_arg7 (by decide)) _)

/-- The reference's result. -/
def result : Buf (Elt Ideal) ((c : Thread nD τ).loc main_v65) := fun j =>
  out (memRow m c (j 0) (j 2)) (grp (j 3)) (lane (j 3))

/-- What the lines of operations leave in the result array. -/
theorem tail_eq : Pipeline.afterTail₀ cfgs (dats m) 0 (V0 m) [hostOps1, hostOps1_1, hostOps1_2, hostOps1_3, hostOps1_4] c main_v65
    = result m c := by
  unfold Pipeline.afterTail₀
  rw [List.flatten_cons, List.flatten_cons, List.flatten_cons, List.flatten_cons, List.flatten_cons, List.flatten_nil, List.append_nil,
    StableHlo.after_append, StableHlo.after_append, StableHlo.after_append, StableHlo.after_append]
  funext (j : S300x1x20x512.Idx)
  obtain ⟨g, cc, hl⟩ := exists_col (j 3)
  have hj : j = ix4 (j 0) (0 : Fin 1) (j 2) (col g cc) := by
    rw [← hl]
    exact funext fun a => match a with
      | ⟨0, _⟩ => rfl | ⟨1, _⟩ => Subsingleton.elim (α := Fin 1) _ _ | ⟨2, _⟩ => rfl | ⟨3, _⟩ => rfl
  rw [hj]
  refine (result_at (U m c) (j 0) (j 2) g cc).trans ((congrArg (fun r => out r g cc) (row_eq m c (j 0) (j 2))).trans ?_)
  unfold result
  show _ = out (memRow m c (j 0) (j 2)) (grp (col g cc)) (lane (col g cc))
  rw [grp_col, lane_col]

/-- THE REFERENCE'S RUN ends with its result in the result array, and with the arguments unchanged. -/
theorem run : θ_run defs (onTc (τ := τ) (main (F := Ideal))) ⟨m, fun _ => 0, ρ⟩ (fun r => ∀ c : Dev nD,
      r.2.mem ((c.tc : Thread nD τ).loc main_v65) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono
    (fun _ h c => ⟨((h.1 c).2 main_v65 (Pipeline.mem_restRefs_of main_v65 (by decide) (by decide))).trans (tail_eq m c), h.2 c⟩)
    (θ_run_and (run_main m ρ) (unchanged m ρ))

end Cert.ReferenceIdeal.Host

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelValue
public import proofs.«01_k».proof.Proof.RefValue
public import Idealize.ShloMosaic.Adequacy
public import Idealize.ShloMosaic.Init

@[expose] public section

noncomputable section

namespace Cert.Proof

open Idealize.ShloMosaic Idealize.ShloMosaic.TcCoe Idealize.SL.Sem

/-- From memories that agree on the arguments, the reference's result is the kernel's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : ∀ b h, Cert.ReferenceIdeal.Host.memRow m' c b h = Cert.KernelIdeal.Body.memRow m c b h) :
    Cert.ReferenceIdeal.Host.result m' c = Cert.KernelIdeal.Body.result m c :=
  funext fun (j : (⟨4, ![300, 1, 20, 512]⟩ : Shape).Idx) =>
    congrArg (fun r => Cert.Math.out r (Cert.Math.grp (j 3)) (Cert.Math.lane (j 3))) (h (j 0) (j 2))

/-- THE EQUATION: the idealized kernel and the reference end with equal results, and with their arguments unchanged. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨Cert.KernelIdeal.Body.result m, Cert.KernelIdeal.Body.run m g trivial, ?_⟩
  refine (θ_run _ _ _).mono (fun _ h c => ⟨(h c).1.trans (results_eq m m' c fun b h => ?_), (h c).2⟩)
    (Cert.ReferenceIdeal.Host.run m' g')
  obtain ⟨h0, h1, h2, h3, h4, h5, h6, h7⟩ := hargs c
  exact Cert.Math.Row.ext' (fun _ => congrFun h0 _) (fun _ => congrFun h1 _) (fun _ => congrFun h2 _) (fun _ => congrFun h3 _)
    (fun _ _ => congrFun h4 _) (fun _ _ => congrFun h5 _) (fun _ _ => congrFun h6 _) (congrFun h7 _)

/-- Every claim. -/
theorem claim : Cert.Claim :=
  ⟨Cert.Kernel.Gen.facts, Cert.KernelIdeal.Gen.facts, Cert.ReferenceIdeal.Gen.facts,
    fun m g _ => Cert.Kernel.Gen.frame m g trivial, fun m g _ => Cert.KernelIdeal.Gen.frame m g trivial,
    fun m g _ => Cert.ReferenceIdeal.Gen.frame m g, trivial, algebraic⟩

end Cert.Proof

end
